-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boundaries_ascend [hPre_boundaries_ascend : Cert.Pre_boundaries_ascend.Facts] (m : (ℓ : Loc Cert.KernelIdeal.nD Cert.KernelIdeal.τ Cert.KernelIdeal.sig) → Buf (Elt Ideal) ℓ) : Prop :=
  ∀ c : Dev Cert.KernelIdeal.nD,
    (Cert.Pre_boundaries_ascend.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boundaries_ascend [hPre_boundaries_ascend : Cert.Pre_boundaries_ascend.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boundaries_ascend.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_boundaries_ascend [hKernelIdeal : Cert.KernelIdeal.Facts] [hPre_boundaries_ascend : Cert.Pre_boundaries_ascend.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boundaries_ascend m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_boundaries_ascend [hReferenceIdeal : Cert.ReferenceIdeal.Facts] [hPre_boundaries_ascend : Cert.Pre_boundaries_ascend.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boundaries_ascend m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_boundaries_ascend [hKernelIdeal : Cert.KernelIdeal.Facts] [hReferenceIdeal : Cert.ReferenceIdeal.Facts] [hPre_boundaries_ascend : Cert.Pre_boundaries_ascend.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boundaries_ascend m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_boundaries_ascend : Cert.Pre_boundaries_ascend.Facts),
    quiescent_Kernel (hKernel := hKernel)
    ∧ quiescent_KernelIdeal (hKernelIdeal := hKernelIdeal)
    ∧ quiescent_KernelIdeal_pre_boundaries_ascend (hKernelIdeal := hKernelIdeal) (hPre_boundaries_ascend := hPre_boundaries_ascend)
    ∧ quiescent_ReferenceIdeal (hReferenceIdeal := hReferenceIdeal)
    ∧ quiescent_ReferenceIdeal_pre_boundaries_ascend (hReferenceIdeal := hReferenceIdeal) (hPre_boundaries_ascend := hPre_boundaries_ascend)
    ∧ preserves_Kernel_KernelIdeal
    ∧ algebraic_KernelIdeal_ReferenceIdeal_pre_boundaries_ascend (hKernelIdeal := hKernelIdeal) (hReferenceIdeal := hReferenceIdeal) (hPre_boundaries_ascend := hPre_boundaries_ascend)
-- ==== Pre_boundaries_ascend.lean ====
abbrev S65536x512 : Shape := ⟨2, ![65536, 512]⟩
abbrev S512x512 : Shape := ⟨2, ![512, 512]⟩
abbrev S8 : Shape := ⟨1, ![8]⟩
abbrev S7 : Shape := ⟨1, ![7]⟩
abbrev S6 : Shape := ⟨1, ![6]⟩
abbrev S_ : Shape := ⟨0, ![]⟩

class Facts : Prop where
  slices_S7_S6_0 : S7.Slices ![0] S6
  slices_S7_S6_1 : S7.Slices ![1] S6
  reducesTo_S6_S_d0 : S6.ReducesTo [0] S_
  h_S_ : 0 < S_.numel

variable [Facts]

def fn {F : FTy → Type} [FloatOps F] (main_arg0 : FVec F S65536x512 .f32) (main_arg1 : FVec F S512x512 .f32) (main_arg2 : FVec F S512x512 .f32) (main_arg3 : FVec F S8 .f32) (main_arg4 : FVec F S7 .f32) : IVec S_ 1 :=
  let main_v0 : FVec F S6 .f32 := (extractStridedSlice S6 ![0] · slices_S7_S6_0) main_arg4
  let main_v1 : FVec F S6 .f32 := (extractStridedSlice S6 ![1] · slices_S7_S6_1) main_arg4
  let main_v2 : IVec S6 1 := cmpf .ole main_v0 main_v1
  let main_c : IVec S_ 1 := constantI S_ 1 1#1
  let main_v3 : IVec S_ 1 := (fun x v => Host.reduce IntOp.andi x v reducesTo_S6_S_d0 h_S_) main_v2 main_c
  main_v3
-- ==== Kernel.lean ====
abbrev S65536x512 : Shape := ⟨2, ![65536, 512]⟩
abbrev S512x512 : Shape := ⟨2, ![512, 512]⟩
abbrev S8 : Shape := ⟨1, ![8]⟩
abbrev S7 : Shape := ⟨1, ![7]⟩
abbrev S2048x512 : Shape := ⟨2, ![2048, 512]⟩
abbrev S1 : Shape := ⟨1, ![1]⟩
abbrev S512 : Shape := ⟨1, ![512]⟩
abbrev S512x1 : Shape := ⟨2, ![512, 1]⟩

abbrev nBuf : Space → Nat
  | .hbm => 7
  | .vmem => 7
  | .smem => 2
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512x512, .f32⟩
  | .hbm, ⟨3, _⟩ => ⟨S8, .f32⟩
  | .hbm, ⟨4, _⟩ => ⟨S7, .f32⟩
  | .hbm, ⟨5, _⟩ => ⟨S512x512, .bf16⟩
  | .hbm, ⟨6, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S2048x512, .f32⟩
  | .local _ .vmem, ⟨6, _⟩ => ⟨S2048x512, .f32⟩
  | .local _ .smem, ⟨0, _⟩ => ⟨S7, .f32⟩
  | .local _ .smem, ⟨1, _⟩ => ⟨S8, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S65536x512 : Shape := ⟨2, ![65536, 512]⟩
abbrev S512x512 : Shape := ⟨2, ![512, 512]⟩
abbrev S8 : Shape := ⟨1, ![8]⟩
abbrev S7 : Shape := ⟨1, ![7]⟩
abbrev S65536x512x1 : Shape := ⟨3, ![65536, 512, 1]⟩
abbrev S1x1x7 : Shape := ⟨3, ![1, 1, 7]⟩
abbrev S65536x512x7 : Shape := ⟨3, ![65536, 512, 7]⟩
abbrev S_ : Shape := ⟨0, ![]⟩
abbrev S1 : Shape := ⟨1, ![1]⟩
abbrev S1x1x1 : Shape := ⟨3, ![1, 1, 1]⟩
abbrev S65536 : Shape := ⟨1, ![65536]⟩
abbrev S65536x1 : Shape := ⟨2, ![65536, 1]⟩

abbrev nBuf : Space → Nat
  | .hbm => 66
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512x512, .f32⟩
  | .hbm, ⟨3, _⟩ => ⟨S8, .f32⟩
  | .hbm, ⟨4, _⟩ => ⟨S7, .f32⟩
  | .hbm, ⟨5, _⟩ => ⟨S512x512, .f32⟩
  | .hbm, ⟨6, _⟩ => ⟨S65536x512, .f32⟩
  | .hbm, ⟨7, _⟩ => ⟨S65536x512x1, .f32⟩
  | .hbm, ⟨8, _⟩ => ⟨S1x1x7, .f32⟩
  | .hbm, ⟨9, _⟩ => ⟨S65536x512x7, .f32⟩
  | .hbm, ⟨10, _⟩ => ⟨S65536x512x7, .f32⟩
  | .hbm, ⟨11, _⟩ => ⟨S65536x512x7, .i1⟩
  | .hbm, ⟨12, _⟩ => ⟨S65536x512x7, .i32⟩
  | .hbm, ⟨13, _⟩ => ⟨S_, .i32⟩
  | .hbm, ⟨14, _⟩ => ⟨S65536x512, .i32⟩
  | .hbm, ⟨15, _⟩ => ⟨S_, .i32⟩
  | .hbm, ⟨16, _⟩ => ⟨S65536x512, .i32⟩
  | .hbm, ⟨17, _⟩ => ⟨S65536x512, .i1⟩
  | .hbm, ⟨18, _⟩ => ⟨S_, .i32⟩
  | .hbm, ⟨19, _⟩ => ⟨S65536x512, .i32⟩
  | .hbm, ⟨20, _⟩ => ⟨S65536x512, .i32⟩
  | .hbm, ⟨21, _⟩ => ⟨S65536x512, .i32⟩
  | .hbm, ⟨22, _⟩ => ⟨S65536x512x1, .i32⟩
  | .hbm, ⟨23, _⟩ => ⟨S1, .i32⟩
  | .hbm, ⟨24, _⟩ => ⟨S_, .i32⟩
  | .hbm, ⟨25, _⟩ => ⟨S65536x512x1, .i32⟩
  | .hbm, ⟨26, _⟩ => ⟨S65536x512x1, .i1⟩
  | .hbm, ⟨27, _⟩ => ⟨S1x1x1, .i32⟩
  | .hbm, ⟨28, _⟩ => ⟨S65536x512x1, .i32⟩
  | .hbm, ⟨29, _⟩ => ⟨S65536x512x1, .i1⟩
  | .hbm, ⟨30, _⟩ => ⟨S65536x512x1, .i1⟩
  | .hbm, ⟨31, _⟩ => ⟨S_, .i1⟩
  | .hbm, ⟨32, _⟩ => ⟨S65536x512, .i1⟩
  | .hbm, ⟨33, _⟩ => ⟨S65536x512, .f32⟩
  | .hbm, ⟨34, _⟩ => ⟨S_, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S65536x1, .f32⟩
  | .hbm, ⟨44, _⟩ => ⟨S512x512, .f32⟩
  | .hbm, ⟨45, _⟩ => ⟨S65536x512, .f32⟩
  | .hbm, ⟨46, _⟩ => ⟨S_, .f32⟩
  | .hbm, ⟨47, _⟩ => ⟨S65536x512, .f32⟩
  | .hbm, ⟨48, _⟩ => ⟨S65536x512, .i1⟩
  | .hbm, ⟨49, _⟩ => ⟨S_, .f32⟩
  | .hbm, ⟨50, _⟩ => ⟨S_, .f32⟩
  | .hbm, ⟨51, _⟩ => ⟨S65536x512, .f32⟩
  | .hbm, ⟨52, _⟩ => ⟨S65536x512, .f32⟩
  | .hbm, ⟨53, _⟩ => ⟨S65536x512, .f32⟩
  | .hbm, ⟨54, _⟩ => ⟨S65536x512, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S65536x512, .f32⟩
  | .hbm, ⟨63, _⟩ => ⟨S65536x512, .f32⟩
  | .hbm, ⟨64, _⟩ => ⟨S65536x512, .f32⟩
  | .hbm, ⟨65, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_v16 : Ref sig .tc := ⟨.hbm, 48, rfl⟩
abbrev main_cst_0 : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_v17 : Ref sig .tc := ⟨.hbm, 53, rfl⟩
abbrev main_v18 : Ref sig .tc := ⟨.hbm, 54, rfl⟩
abbrev main_cst_2 : Ref sig .tc := ⟨.hbm, 55, rfl⟩
abbrev main_v19 : Ref sig .tc := ⟨.hbm, 56, rfl⟩
abbrev main_cst_3 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩

abbrev nD : Nat := 1
abbrev τ : Topo := Topo.v7x

variable {F : FTy → Type} [FloatOps F]
-- ==== Proof.Tq.Chunk.lean ====
module

public import proofs.«01_k».proof.Proof.Gen.KernelIdeal.Value
public import Idealize.ShloMosaic.Lib.ValueIdxCore

/-!
# The kernel's block as four chunks of one computation

A grid point works on a block of 2048 rows of `x` as four chunks of 512 rows. The four are written interleaved, but
each is one and the same computation, `chunk`, on its own 512 rows; the block that a grid point leaves is therefore a
list of four stores, each of `chunk` of the rows it covers.
-/

@[expose] public section

set_option maxRecDepth 16384

noncomputable section

namespace Cert.Tq

open Idealize.ShloMosaic Idealize.ShloMosaic.TcCoe Idealize.ShloMosaic.ValueIdx Idealize.ShloMosaic.Tactic
open Idealize.SL.Sem
open Cert.KernelIdeal Cert.KernelIdeal.Gen

variable {F : FTy → Type} [FloatOps F]

/-- The product of a chunk's rows with the rows of a square matrix (`X · Mᵀ`). -/
def timesT (X M : FVec F S512x512 .f32) : FVec F S512x512 .f32 :=
  matmul dot_S512x512_S512x512_S512x512_1_1_0_0_n_n none X M (constant S512x512 .f32 0x00000000#32)

/-- The product of a chunk with a square matrix (`X · M`). -/
def times {φ : FTy} (X M : FVec F S512x512 φ) : FVec F S512x512 .f32 :=
  matmul dot_S512x512_S512x512_S512x512_1_0_0_1_n_n none X M (constant S512x512 .f32 0x00000000#32)

/-- One step of the quantisation: where the rotated entry exceeds the boundary, the next centroid replaces the level
    chosen so far. -/
def raise (y : FVec F S512x512 .f32) (b c : F .f32) (v : FVec F S512x512 .f32) : FVec F S512x512 .f32 :=
  select (cmpf .ogt y (broadcast S512x512 b)) (broadcast S512x512 c) v

/-- The quantised chunk: the first centroid, raised at each of the seven boundaries in turn. -/
def quantise (b : Fin 7 → F .f32) (c : Fin 8 → F .f32) (y : FVec F S512x512 .f32) : FVec F S512x512 .f32 :=
  raise y (b 6) (c 7) <| raise y (b 5) (c 6) <| raise y (b 4) (c 5) <| raise y (b 3) (c 4) <| raise y (b 2) (c 3) <|
    raise y (b 1) (c 2) <| raise y (b 0) (c 1) <| broadcast S512x512 (c 0)

/-- The length of each row of a chunk, as a column. -/
def lengths (r : FVec F S512x512 .f32) : FVec F S512x1 .f32 :=
  sqrt (shapeCast S512x1 (multiReduction .add [1] S512 (mulf r r) 0x00000000#32 reduces_S512x512_S512 (.inl rfl) rfl)
    shapeCasts_S512_S512x1)

/-- The signs of a chunk's entries: one where the entry is at least zero and minus one elsewhere. -/
def signs (z : FVec F S512x512 .f32) : FVec F S512x512 .bf16 :=
  truncf .bf16 (select (cmpf .oge z (broadcast S512x512 (Scalar.ofBits .f32 0x00000000#32)))
    (broadcast S512x512 (Scalar.ofBits .f32 0x3F800000#32)) (broadcast S512x512 (Scalar.ofBits .f32 0xBF800000#32)))
    bitsLt_bf16_f32

/-- The quantised chunk rotated back: the first part of the result. -/
def coarse (P : FVec F S512x512 .f32) (b : Fin 7 → F .f32) (c : Fin 8 → F .f32) (X : FVec F S512x512 .f32) :
    FVec F S512x512 .f32 := times (quantise b c (timesT X P)) P

/-- What one chunk of 512 rows `X` becomes: the coarse part, plus the residual's length times the scale times the
    signs of the sketched residual, sketched back. `P` is the rotation, `S` the sketch, `Sb` the sketch in bf16. -/
def chunk (b : Fin 7 → F .f32) (c : Fin 8 → F .f32) (P S : FVec F S512x512 .f32) (Sb : FVec F S512x512 .bf16)
    (X : FVec F S512x512 .f32) : FVec F S512x512 .f32 :=
  addf (coarse P b c X)
    (mulf (broadcastTo S512x512 (mulf (lengths (subf X (coarse P b c X))) (broadcast S512x1 (k0_pay4 (F := F))))
        broadcasts_S512x1_S512x512)
      (times (signs (timesT (subf X (coarse P b c X)) S)) (k0_pay3 Sb)))

/-- A single word loaded from a table is the table's entry at that place. -/
theorem ld_word {n : ℕ} (x : (⟨1, ![n]⟩ : Shape).Idx → Elt F .f32) (k : ℕ)
    (inb : ∀ a, (![k] : Fin 1 → ℕ) a + (![1] : Fin 1 → ℕ) a ≤ (⟨1, ![n]⟩ : Shape).size a) (hp) :
    View.ld (Val := Elt F) (e' := .f32) x (Rect.unit (s := ⟨1, ![n]⟩) ![k] ![1] inb) (Shape.Idx.first hp)
      = x (ix1 ⟨k, Nat.lt_of_succ_le (inb 0)⟩) := by
  show x _ = x _
  congr 1
  funext a
  match a with
  | ⟨0, _⟩ => exact Fin.ext rfl

/-- Rows `o … o + 511` of a block, as a rectangle of it. -/
abbrev rows (o : ℕ) (h : ∀ a, (![o, 0] : Fin 2 → ℕ) a + S512x512.size a ≤ S2048x512.size a) : Rect S2048x512 :=
  Rect.unit (s := S2048x512) ![o, 0] S512x512.size h

/-- The store of a chunk at rows `o … o + 511`, computed from the same rows of the input block. -/
abbrev chunkPiece (x0 : Vec F S7 .f32) (x1 : Vec F S8 .f32) (x2 : Vec F S2048x512 .f32) (x3 x4 : Vec F S512x512 .f32)
    (x5 : Vec F S512x512 .bf16) (o : ℕ) (h : ∀ a, (![o, 0] : Fin 2 → ℕ) a + S512x512.size a ≤ S2048x512.size a) :
    View.Piece (Elt F) S2048x512 .f32 :=
  ⟨rows o h, chunk (fun k => x0 (ix1 k)) (fun k => x1 (ix1 k)) x3 x4 x5 (View.ld x2 (rows o h))⟩

/-- What a grid point leaves in its output block is the four chunks, each stored at the rows it was computed from. -/
theorem out_eq_chunks (d : Dev nD) (i : grid0.Coords) (arg1 : Memref sig .tc .smem S7 .f32) (harg1 : arg1.IsWhole)
    (arg2 : Memref sig .tc .smem S8 .f32) (harg2 : arg2.IsWhole) (arg3 : Memref sig .tc .vmem S2048x512 .f32)
    (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16)
    (harg6 : arg6.IsWhole) (arg7 : Memref sig .tc .vmem S2048x512 .f32) (harg7 : arg7.IsWhole)
    (x0 : Vec F S7 .f32) (x1 : Vec F S8 .f32) (x2 : Vec F S2048x512 .f32) (x3 x4 : Vec F S512x512 .f32)
    (x5 : Vec F S512x512 .bf16) :
    out0_A_6 d i arg1 harg1 arg2 harg2 arg3 harg3 arg4 harg4 arg5 harg5 arg6 harg6 arg7 harg7 x0 x1 x2 x3 x4 x5
      = View.canon [chunkPiece x0 x1 x2 x3 x4 x5 1536 inb_S2048x512_S512x512_1536_0,
          chunkPiece x0 x1 x2 x3 x4 x5 1024 inb_S2048x512_S512x512_1024_0,
          chunkPiece x0 x1 x2 x3 x4 x5 512 inb_S2048x512_S512x512_512_0,
          chunkPiece x0 x1 x2 x3 x4 x5 0 inb_S2048x512_S512x512_0_0] := by
  unfold out0_A_6
  rw [View.read_writes_eq_canon _ _ _ (cover0_A_6 d i arg1 harg1 arg2 harg2 arg3 harg3 arg4 harg4 arg5 harg5 arg6 harg6
    arg7 harg7 x0 x1 x2 x3 x4 x5)]
  unfold kernelRun0_A
  dsimp only
  sl_unfold_words
  have hz : (![0, 0] : Fin 2 → ℕ) = fun _ => 0 := by funext a; match a with | ⟨0, _⟩ => rfl | ⟨1, _⟩ => rfl
  simp only [View.readAt_eq_ld, harg1.read_unread, harg2.read_unread, harg3.read_unread, harg4.read_unread,
    harg5.read_unread, harg6.read_unread]
  have e3 : View.ld x3 (Rect.unit (s := S512x512) ![0, 0] S512x512.size inb_S512x512_S512x512_0_0) = x3 :=
    View.ld_unit_zero hz _ x3
  have e4 : View.ld x4 (Rect.unit (s := S512x512) ![0, 0] S512x512.size inb_S512x512_S512x512_0_0) = x4 :=
    View.ld_unit_zero hz _ x4
  have e5 : View.ld x5 (Rect.unit (s := S512x512) ![0, 0] S512x512.size inb_S512x512_S512x512_0_0) = x5 :=
    View.ld_unit_zero hz _ x5
  simp only [e3, e4, e5]
  simp only [ld_word x0, ld_word x1]
  rfl

end Cert.Tq
-- ==== Proof.Tq.Row.lean ====
module

public import Idealize.ShloMosaic.PureOps.Ideal.Laws

/-!
# What one row becomes

Every row of the result depends on that row of `x` alone, so the mathematics is stated for one row of 512 extended
reals: rotate it, round each entry to a centroid, rotate back, and add a correction made of the residual's length and
of the signs of its sketch. The kernel picks a centroid by going through the boundaries in order; the reference picks
it by counting the boundaries below the entry. For boundaries that ascend the two choices agree (`levelTo_eq`).
-/

@[expose] public section

noncomputable section

namespace Cert.Tq

open Idealize.ShloMosaic
open scoped BigOperators

/-- A row of 512 extended reals. -/
abbrev Row := Fin 512 → EReal

/-- A row times the transpose of a square matrix: entry `j` is the row's product with row `j` of the matrix. -/
def rowTimesT (x : Row) (M : Fin 512 → Row) : Row := fun j => ∑ k : Fin 512, x k * M j k

/-- A row times a square matrix: entry `j` is the row's product with column `j` of the matrix. -/
def rowTimes (x : Row) (M : Fin 512 → Row) : Row := fun j => ∑ k : Fin 512, x k * M k j

/-- The level chosen by going through the first `n` boundaries in order: the first centroid, replaced by centroid
    `k + 1` at each boundary `k` that the entry exceeds. -/
def levelTo (b : Fin 7 → EReal) (c : Fin 8 → EReal) (y : EReal) : (n : ℕ) → n ≤ 7 → EReal
  | 0, _ => c 0
  | n + 1, h => if b ⟨n, h⟩ < y then c ⟨n + 1, Nat.succ_le_succ h⟩ else levelTo b c y n (Nat.le_of_succ_le h)

/-- How many of the boundaries lie below an entry. -/
def below (b : Fin 7 → EReal) (y : EReal) : ℕ := (Finset.univ.filter fun k => b k < y).card

/-- At most seven do. -/
theorem below_lt (b : Fin 7 → EReal) (y : EReal) : below b y < 8 := by
  have h := Finset.card_filter_le (Finset.univ : Finset (Fin 7)) (fun k => b k < y)
  rw [Finset.card_univ, Fintype.card_fin] at h
  exact Nat.lt_succ_of_le h

/-- If the boundaries below an entry are exactly the first `n`, their number is `n`. -/
theorem below_eq (b : Fin 7 → EReal) (y : EReal) (n : ℕ) (hn : n ≤ 7) (h : ∀ k : Fin 7, b k < y ↔ k.val < n) :
    below b y = n := by
  unfold below
  rw [Finset.filter_congr (fun k _ => h k), Fin.card_filter_val_lt]
  exact min_eq_right hn

/-- For ascending boundaries, none of which from the `n`-th on lies below the entry, the level chosen by going through
    the first `n` in order is the centroid whose number is the number of boundaries below the entry. -/
theorem levelTo_eq (b : Fin 7 → EReal) (c : Fin 8 → EReal) (y : EReal) (hb : Monotone b) :
    ∀ (n : ℕ) (hn : n ≤ 7), (∀ k : Fin 7, n ≤ k.val → ¬ b k < y) → levelTo b c y n hn = c ⟨below b y, below_lt b y⟩
  | 0, hn, h => congrArg c (Fin.ext (below_eq b y 0 hn fun k =>
      ⟨fun hk => absurd hk (h k (Nat.zero_le _)), fun hk => absurd hk (Nat.not_lt_zero _)⟩).symm)
  | n + 1, hn, h => by
    unfold levelTo
    by_cases hy : b ⟨n, hn⟩ < y
    · rw [if_pos hy]
      refine congrArg c (Fin.ext (below_eq b y (n + 1) hn fun k => ⟨fun hk => ?_, fun hk => ?_⟩).symm)
      · exact not_le.1 fun hle => h k hle hk
      · exact lt_of_le_of_lt (hb (show k ≤ ⟨n, hn⟩ from Nat.lt_succ_iff.1 hk)) hy
    · rw [if_neg hy]
      refine levelTo_eq b c y hb n _ fun k hk => ?_
      rcases Nat.lt_or_ge n k.val with hlt | hge
      · exact h k hlt
      · have e : k = ⟨n, hn⟩ := Fin.ext (le_antisymm hge hk)
        rw [e]; exact hy

/-- The level of an entry among all seven boundaries. -/
def level (b : Fin 7 → EReal) (c : Fin 8 → EReal) (y : EReal) : EReal := levelTo b c y 7 le_rfl

/-- For ascending boundaries the level of an entry is the centroid at the number of boundaries below it. -/
theorem level_eq (b : Fin 7 → EReal) (c : Fin 8 → EReal) (y : EReal) (hb : Monotone b) :
    level b c y = c ⟨below b y, below_lt b y⟩ :=
  levelTo_eq b c y hb 7 le_rfl fun k hk => absurd k.isLt (not_lt.2 hk)

/-- One where an entry is at least zero, minus one elsewhere. -/
def signOf (z : EReal) : EReal :=
  Scalar.select (Ideal.cmp .oge z (Ideal.ofBits .f32 0x00000000#32)) (Ideal.ofBits .f32 0x3F800000#32)
    (Ideal.ofBits .f32 0xBF800000#32)

/-- The scale of the correction: the square root of half of pi (as the program writes it in single precision), divided
    by the number of rows of the sketch. -/
def scale : EReal := Ideal.div (Ideal.sqrt (Ideal.ofBits .f32 0x3FC90FDB#32)) (Ideal.ofBits .f32 0x44000000#32)

/-- The row rotated, with every entry replaced by its level, and rotated back. -/
def coarseRow (b : Fin 7 → EReal) (c : Fin 8 → EReal) (P : Fin 512 → Row) (x : Row) : Row :=
  rowTimes (fun k => level b c (rowTimesT x P k)) P

/-- What the coarse row misses of the row. -/
def residual (b : Fin 7 → EReal) (c : Fin 8 → EReal) (P : Fin 512 → Row) (x : Row) : Row :=
  fun k => x k - coarseRow b c P x k

/-- What a row becomes: the coarse row, plus the residual's length times the scale times the signs of the sketched
    residual, sketched back. -/
def resultRow (b : Fin 7 → EReal) (c : Fin 8 → EReal) (P S : Fin 512 → Row) (x : Row) : Row :=
  fun j => coarseRow b c P x j
    + Ideal.sqrt (∑ k : Fin 512, residual b c P x k * residual b c P x k) * scale
      * rowTimes (fun k => signOf (rowTimesT (residual b c P x) S k)) S j

/-- Choosing by the machine's comparison "greater than" is choosing by "less than" turned round. -/
theorem select_gt {α : Type} (y b : EReal) (u v : α) : Scalar.select (Ideal.cmp .ogt y b) u v = if b < y then u else v := by
  unfold Scalar.select Ideal.cmp
  by_cases h : b < y <;> simp [h]

end Cert.Tq
-- ==== Proof.Tq.ChunkRow.lean ====
module

public import proofs.«01_k».proof.Proof.Tq.Chunk
public import proofs.«01_k».proof.Proof.Tq.Row
public import Idealize.ShloMosaic.Lib.MatmulPlain

/-!
# A chunk, read row by row

At the extended reals each operation of a chunk is read at an entry, and a chunk's row `r` is what the mathematics says
one row becomes (`chunk_apply`).
-/

@[expose] public section

noncomputable section

namespace Cert.Tq

open Idealize.ShloMosaic Idealize.ShloMosaic.ValueIdx
open scoped BigOperators
open Cert.KernelIdeal Cert.KernelIdeal.Gen

/-- Row `r` of a square array of 512 by 512. -/
abbrev rowOf {φ : FTy} (M : FVec Ideal S512x512 φ) (r : Fin 512) : Row := fun k => M (ix2 r k)

/-- The product with a transpose, read at an entry. -/
theorem timesT_apply (X M : FVec Ideal S512x512 .f32) (r j : Fin 512) :
    timesT X M (ix2 r j) = rowTimesT (rowOf X r) (rowOf M) j := by
  refine (Ideal.matmul_transposedRhs_apply (M := 512) (K := 512) (N := 512) none X M
    (constant S512x512 .f32 0x00000000#32) r j).trans ?_
  show Ideal.ofBits .f32 0x00000000#32 + _ = _
  rw [Ideal.ofBits_zero_f32, zero_add]
  rfl

/-- The plain product, read at an entry. -/
theorem times_apply {φ : FTy} (X M : FVec Ideal S512x512 φ) (r j : Fin 512) :
    times X M (ix2 r j) = rowTimes (rowOf X r) (rowOf M) j := by
  refine (Ideal.matmul_plain_apply (M := 512) (K := 512) (N := 512) none X M
    (constant S512x512 .f32 0x00000000#32) r j).trans ?_
  show Ideal.ofBits .f32 0x00000000#32 + _ = _
  rw [Ideal.ofBits_zero_f32, zero_add]
  rfl

/-- One step of the quantisation, read at an entry. -/
theorem raise_apply (y : FVec Ideal S512x512 .f32) (b c : EReal) (v : FVec Ideal S512x512 .f32) (i : S512x512.Idx) :
    raise y b c v i = if b < y i then c else v i := select_gt (y i) b c (v i)

/-- The quantised chunk, read at an entry: the level of the entry. -/
theorem quantise_apply (b : Fin 7 → EReal) (c : Fin 8 → EReal) (y : FVec Ideal S512x512 .f32) (i : S512x512.Idx) :
    quantise (F := Ideal) b c y i = level b c (y i) := by
  unfold quantise
  simp only [raise_apply]
  rfl

/-- The coarse part of a chunk, read at an entry. -/
theorem coarse_apply (b : Fin 7 → EReal) (c : Fin 8 → EReal) (P X : FVec Ideal S512x512 .f32) (r j : Fin 512) :
    coarse (F := Ideal) P b c X (ix2 r j) = coarseRow b c (rowOf P) (rowOf X r) j := by
  unfold coarse coarseRow
  rw [times_apply]
  refine congrArg (fun q => rowTimes q (rowOf P) j) (funext fun k => ?_)
  show quantise b c (timesT X P) (ix2 r k) = _
  rw [quantise_apply, timesT_apply]

/-- The residual of a chunk, row by row. -/
theorem residual_row (b : Fin 7 → EReal) (c : Fin 8 → EReal) (P X : FVec Ideal S512x512 .f32) (r : Fin 512) :
    rowOf (φ := .f32) (subf X (coarse (F := Ideal) P b c X)) r = residual b c (rowOf P) (rowOf X r) :=
  funext fun k => congrArg (X (ix2 r k) - ·) (coarse_apply b c P X r k)

/-- The length of a chunk's row. -/
theorem lengths_apply (R : FVec Ideal S512x512 .f32) (r : Fin 512) :
    lengths R (ix2 r 0) = Ideal.sqrt (∑ k : Fin 512, rowOf R r k * rowOf R r k) := by
  refine congrArg Ideal.sqrt ?_
  refine (shapeCast_apply _ shapeCasts_S512_S512x1 (ix2 r 0) (ix1 r) ?_).trans ?_
  · rw [Shape.rowMajor_val_one, Shape.rowMajor_val_two]
    show r.val = r.val * 1 + 0
    omega
  · refine (Ideal.multiReduction_add_single (mulf R R) _ reduces_S512x512_S512 _ _ (ix1 r)).trans ?_
    refine Finset.sum_congr rfl fun k _ => ?_
    have e : (reduces_S512x512_S512).lift (ix1 r) k = ix2 r k := by
      funext a
      match a with
      | ⟨0, _⟩ => rfl
      | ⟨1, _⟩ => rfl
    rw [e]; rfl

/-- A chunk's row `r` is what its row `r` of input becomes. -/
theorem chunk_apply (b : Fin 7 → EReal) (c : Fin 8 → EReal) (P S : FVec Ideal S512x512 .f32)
    (Sb : FVec Ideal S512x512 .bf16) (X : FVec Ideal S512x512 .f32) (hS : ∀ i, Sb i = S i) (r j : Fin 512) :
    chunk (F := Ideal) b c P S Sb X (ix2 r j) = resultRow b c (rowOf P) (rowOf S) (rowOf X r) j := by
  unfold chunk resultRow
  have hb : k0_pay3 (F := Ideal) Sb = (S : S512x512.Idx → EReal) := by
    unfold k0_pay3
    exact (shapeCast_self _ _).trans (funext hS)
  rw [hb]
  have hl : broadcastTo S512x512 (mulf (lengths (subf X (coarse (F := Ideal) P b c X)))
      (broadcast S512x1 (k0_pay4 (F := Ideal)))) broadcasts_S512x1_S512x512 (ix2 r j)
      = Ideal.sqrt (∑ k : Fin 512, residual b c (rowOf P) (rowOf X r) k * residual b c (rowOf P) (rowOf X r) k) * scale := by
    refine (broadcastTo_apply _ broadcasts_S512x1_S512x512 (ix2 r j) (ix2 r 0) fun a => ?_).trans ?_
    · match a with
      | ⟨0, _⟩ => rfl
      | ⟨1, _⟩ => rfl
    · show lengths (subf X (coarse (F := Ideal) P b c X)) (ix2 r 0) * scale = _
      rw [lengths_apply, residual_row]
  have hm : times (φ := .bf16) (signs (timesT (subf X (coarse (F := Ideal) P b c X)) S)) S (ix2 r j)
      = rowTimes (fun k => signOf (rowTimesT (residual b c (rowOf P) (rowOf X r)) (rowOf S) k)) (rowOf S) j := by
    refine (times_apply (φ := .bf16) _ _ r j).trans ?_
    refine congrArg (fun q => rowTimes q (rowOf S) j) (funext fun k => ?_)
    show signOf (timesT (subf X (coarse (F := Ideal) P b c X)) S (ix2 r k)) = _
    rw [timesT_apply, residual_row]
  exact congrArg₂ (· + ·) (coarse_apply b c P X r j) (congrArg₂ (· * ·) hl hm)

end Cert.Tq
-- ==== Proof.Tq.Block.lean ====
module

public import proofs.«01_k».proof.Proof.Tq.ChunkRow

/-!
# What a grid point's block holds

The four chunks tile the 2048 rows of a block, and each is stored where it was read, so row `r` of the block that a
grid point leaves is what row `r` of its input block becomes.
-/

@[expose] public section

set_option maxRecDepth 16384

noncomputable section

namespace Cert.Tq

open Idealize.ShloMosaic Idealize.ShloMosaic.TcCoe Idealize.ShloMosaic.ValueIdx
open Idealize.SL.Sem
open Cert.KernelIdeal Cert.KernelIdeal.Gen

/-- The block in which every row is what that row of the input block becomes. -/
def blockOf (x0 : Vec Ideal S7 .f32) (x1 : Vec Ideal S8 .f32) (x2 : Vec Ideal S2048x512 .f32)
    (x3 x4 : Vec Ideal S512x512 .f32) : S2048x512.Idx → EReal := fun y =>
  resultRow (fun k => x0 (ix1 k)) (fun k => x1 (ix1 k)) (rowOf (φ := .f32) x3) (rowOf (φ := .f32) x4)
    (fun k => x2 (ix2 (n0 := 2048) (n1 := 512) (y 0) k)) (y 1)

/-- Each chunk's store holds, entry by entry, what the block should hold at the rows it covers. -/
theorem chunkPiece_apply (x0 : Vec Ideal S7 .f32) (x1 : Vec Ideal S8 .f32) (x2 : Vec Ideal S2048x512 .f32)
    (x3 x4 : Vec Ideal S512x512 .f32) (x5 : Vec Ideal S512x512 .bf16) (h5 : ∀ i, x5 i = x4 i) (o : ℕ)
    (h : ∀ a, (![o, 0] : Fin 2 → ℕ) a + S512x512.size a ≤ S2048x512.size a) (x : S512x512.Idx) :
    (chunkPiece (F := Ideal) x0 x1 x2 x3 x4 x5 o h).2 x = blockOf x0 x1 x2 x3 x4 ((rows o h).emb x) := by
  have hx : x = ix2 (x 0) (x 1) := eq_ix2 x
  have h1 : ((rows o h).emb x) 1 = x 1 := Fin.ext (show 0 + 1 * (x 1).val = (x 1).val by omega)
  have hr : rowOf (φ := .f32) (View.ld (Val := Elt Ideal) (e' := .f32) x2 (rows o h)) (x 0)
      = fun k => x2 (ix2 (n0 := 2048) (n1 := 512) (((rows o h).emb x) 0) k) := by
    funext k
    refine congrArg x2 (funext fun a => Fin.ext ?_)
    match a with
    | ⟨0, _⟩ => rfl
    | ⟨1, _⟩ => show 0 + 1 * k.val = k.val; omega
  show chunk (F := Ideal) _ _ x3 x4 x5 (View.ld x2 (rows o h)) x = _
  unfold blockOf
  rw [← hr, h1]
  conv_lhs => rw [hx]
  exact chunk_apply _ _ x3 x4 x5 _ h5 (x 0) (x 1)

/-- Some chunk covers each entry of the block. -/
theorem chunks_cover (x0 : Vec Ideal S7 .f32) (x1 : Vec Ideal S8 .f32) (x2 : Vec Ideal S2048x512 .f32)
    (x3 x4 : Vec Ideal S512x512 .f32) (x5 : Vec Ideal S512x512 .bf16) (y : S2048x512.Idx) :
    ∃ p ∈ [chunkPiece (F := Ideal) x0 x1 x2 x3 x4 x5 1536 inb_S2048x512_S512x512_1536_0,
          chunkPiece x0 x1 x2 x3 x4 x5 1024 inb_S2048x512_S512x512_1024_0,
          chunkPiece x0 x1 x2 x3 x4 x5 512 inb_S2048x512_S512x512_512_0,
          chunkPiece x0 x1 x2 x3 x4 x5 0 inb_S2048x512_S512x512_0_0], y ∈ p.1.set := by
  have hm : ∀ (o : ℕ) (h : ∀ a, (![o, 0] : Fin 2 → ℕ) a + S512x512.size a ≤ S2048x512.size a), o ≤ (y 0).val →
      (y 0).val < o + 512 → y ∈ (rows o h).set := by
    intro o h hlo hhi
    refine Rect.mem_set_unit.2 fun a => ?_
    match a with
    | ⟨0, _⟩ => exact ⟨hlo, hhi⟩
    | ⟨1, _⟩ => exact ⟨Nat.zero_le _, show (y 1).val < 0 + 512 from (Nat.zero_add 512).symm ▸ (y 1).isLt⟩
  have hy : (y 0).val < 2048 := (y 0).isLt
  rcases Nat.lt_or_ge (y 0).val 512 with h1 | h1
  · exact ⟨_, .tail _ (.tail _ (.tail _ (.head _))), hm 0 inb_S2048x512_S512x512_0_0 (Nat.zero_le _) (by omega)⟩
  rcases Nat.lt_or_ge (y 0).val 1024 with h2 | h2
  · exact ⟨_, .tail _ (.tail _ (.head _)), hm 512 inb_S2048x512_S512x512_512_0 h1 (by omega)⟩
  rcases Nat.lt_or_ge (y 0).val 1536 with h3 | h3
  · exact ⟨_, .tail _ (.head _), hm 1024 inb_S2048x512_S512x512_1024_0 h2 (by omega)⟩
  · exact ⟨_, .head _, hm 1536 inb_S2048x512_S512x512_1536_0 h3 (by omega)⟩

/-- The block that a grid point leaves: every row is what that row of its input block becomes. -/
theorem out_eq_blockOf (d : Dev nD) (i : grid0.Coords) (arg1 : Memref sig .tc .smem S7 .f32) (harg1 : arg1.IsWhole)
    (arg2 : Memref sig .tc .smem S8 .f32) (harg2 : arg2.IsWhole) (arg3 : Memref sig .tc .vmem S2048x512 .f32)
    (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16)
    (harg6 : arg6.IsWhole) (arg7 : Memref sig .tc .vmem S2048x512 .f32) (harg7 : arg7.IsWhole)
    (x0 : Vec Ideal S7 .f32) (x1 : Vec Ideal S8 .f32) (x2 : Vec Ideal S2048x512 .f32) (x3 x4 : Vec Ideal S512x512 .f32)
    (x5 : Vec Ideal S512x512 .bf16) (h5 : ∀ i, x5 i = x4 i) :
    out0_A_6 (F := Ideal) d i arg1 harg1 arg2 harg2 arg3 harg3 arg4 harg4 arg5 harg5 arg6 harg6 arg7 harg7 x0 x1 x2 x3 x4 x5
      = blockOf x0 x1 x2 x3 x4 := by
  rw [out_eq_chunks]
  funext y
  refine View.canon_apply_of_pieces (blockOf x0 x1 x2 x3 x4) _ (fun p hp => ?_) y (chunks_cover x0 x1 x2 x3 x4 x5 y)
  simp only [List.mem_cons, List.not_mem_nil, or_false] at hp
  rcases hp with rfl | rfl | rfl | rfl <;> exact fun x => chunkPiece_apply x0 x1 x2 x3 x4 x5 h5 _ _ x

end Cert.Tq
-- ==== Proof.Tq.Array.lean ====
module

public import proofs.«01_k».proof.Proof.Tq.Block
public import Idealize.ShloMosaic.Lib.Pipeline.ValueKit

/-!
# What the result array holds

The 32 grid points' blocks tile the array, and each holds what its rows of `x` become; so does the array.
-/

@[expose] public section

set_option maxRecDepth 16384

noncomputable section

namespace Cert.Tq

open Idealize.ShloMosaic Idealize.ShloMosaic.TcCoe
open Idealize.SL.Sem
open Cert.KernelIdeal Cert.KernelIdeal.Gen

/-- The array in which every row is what that row of `x` becomes. -/
def resultArray (x : S65536x512.Idx → EReal) (P S : S512x512.Idx → EReal) (c : S8.Idx → EReal) (b : S7.Idx → EReal) :
    S65536x512.Idx → EReal := fun i =>
  resultRow (fun k => b (ValueIdx.ix1 k)) (fun k => c (ValueIdx.ix1 k)) (rowOf (φ := .f32) P) (rowOf (φ := .f32) S)
    (fun k => x (ValueIdx.ix2 (n0 := 65536) (n1 := 512) (i 0) k)) (i 1)

variable (m : (ℓ : Loc nD τ sig) → Buf (Elt Ideal) ℓ)

/-- The places at which the windows' blocks stand: the whole of every table, and one run of rows of `x` and the result. -/
theorem places : ∀ t : Fin grid0.N, win0_0.index t = ![0] ∧ win0_1.index t = ![0] ∧ win0_2.index t = ![(grid0.coords t 0).val, 0] ∧
    win0_3.index t = ![0, 0] ∧ win0_4.index t = ![0, 0] ∧ win0_5.index t = ![0, 0] ∧
    win0_6.index t = ![(grid0.coords t 0).val, 0] := by
  decide +kernel

/-- The first window reads the boundaries. -/
theorem read_boundaries (d : Dev nD) (t : Fin cfg0.grid.N) (k : Fin 7) :
    iblk m d 0 t (ValueIdx.ix1 k) = m ((d : Thread nD τ).loc main_arg4) (ValueIdx.ix1 k) := by
  blk_ext [iblk, V, (places t).1]

/-- The second window reads the centroids. -/
theorem read_centroids (d : Dev nD) (t : Fin cfg0.grid.N) (k : Fin 8) :
    iblk m d 1 t (ValueIdx.ix1 k) = m ((d : Thread nD τ).loc main_arg3) (ValueIdx.ix1 k) := by
  blk_ext [iblk, V, (places t).2.1]

/-- The fourth window reads the rotation. -/
theorem read_rotation (d : Dev nD) (t : Fin cfg0.grid.N) (i : S512x512.Idx) :
    iblk m d 3 t i = m ((d : Thread nD τ).loc main_arg1) i := by
  blk_ext [iblk, V, (places t).2.2.2.1]

/-- The fifth window reads the sketch. -/
theorem read_sketch (d : Dev nD) (t : Fin cfg0.grid.N) (i : S512x512.Idx) :
    iblk m d 4 t i = m ((d : Thread nD τ).loc main_arg2) i := by
  blk_ext [iblk, V, (places t).2.2.2.2.1]

/-- The sixth window reads the sketch too: rounding it to the shorter format changes no number. -/
theorem read_rounded (d : Dev nD) (t : Fin cfg0.grid.N) (i : S512x512.Idx) :
    iblk m d 5 t i = m ((d : Thread nD τ).loc main_arg2) i := by
  blk_simp [iblk, (places t).2.2.2.2.2.1]
  entry_read
  blk_ext [(places t).2.2.2.2.2.1]

/-- The third window reads the rows of `x` from the block's first on. -/
theorem read_x (d : Dev nD) (t : Fin cfg0.grid.N) (q : Fin 2048) (r : Fin 65536)
    (hr : r.val = (grid0.coords t 0).val * 2048 + q.val) (k : Fin 512) :
    iblk m d 2 t (ValueIdx.ix2 q k) = m ((d : Thread nD τ).loc main_arg0) (ValueIdx.ix2 r k) := by
  blk_ext [iblk, V, (places t).2.2.1, hr]

/-- After the run the result array holds what every row of `x` becomes. -/
theorem array_eq (d : Dev nD) :
    (dats m 0 d).arrAt 6 cfg0.N = resultArray (m ((d : Thread nD τ).loc main_arg0)) (m ((d : Thread nD τ).loc main_arg1))
      (m ((d : Thread nD τ).loc main_arg2)) (m ((d : Thread nD τ).loc main_arg3)) (m ((d : Thread nD τ).loc main_arg4)) := by
  refine (dats m 0 d).arrAt_eq_of_covers 6 _ (by decide +kernel) fun t hf y => ?_
  rw [after0_6]
  unfold outsAt0
  rw [out_eq_blockOf]
  · unfold blockOf resultArray
    have hb : (fun k => iblk m d 0 t (ValueIdx.ix1 k)) = fun k => m ((d : Thread nD τ).loc main_arg4) (ValueIdx.ix1 k) :=
      funext fun k => read_boundaries m d t k
    have hc : (fun k => iblk m d 1 t (ValueIdx.ix1 k)) = fun k => m ((d : Thread nD τ).loc main_arg3) (ValueIdx.ix1 k) :=
      funext fun k => read_centroids m d t k
    have hP : iblk m d 3 t = m ((d : Thread nD τ).loc main_arg1) := funext fun i => read_rotation m d t i
    have hS : iblk m d 4 t = m ((d : Thread nD τ).loc main_arg2) := funext fun i => read_sketch m d t i
    have hr : (((cfg0.win 6).blk t).view.emb y 0).val =
        (grid0.coords t 0).val * 2048 + ((cfg0.win 6).xinj (cfg0.grid.coords t) y 0).val := by
      blk_simp [(places t).2.2.2.2.2.2]
    have hx := funext fun k => read_x m d t ((cfg0.win 6).xinj (cfg0.grid.coords t) y 0) (((cfg0.win 6).blk t).view.emb y 0) hr k
    have hj : (cfg0.win 6).xinj (cfg0.grid.coords t) y 1 = ((cfg0.win 6).blk t).view.emb y 1 := by
      apply Fin.ext
      blk_simp [(places t).2.2.2.2.2.2]
    rw [hb, hc, hP, hS, hx, hj]
    rfl
  · exact fun i => (read_rounded m d t i).trans (read_sketch m d t i).symm

end Cert.Tq
-- ==== Proof.Tq.Lookup.lean ====
module

public import proofs.«01_k».proof.Proof.Gen.ReferenceIdeal.Read
public import proofs.«01_k».proof.Proof.Tq.ChunkRow
public import Idealize.ShloMosaic.Lib.IndicatorCount
public import Idealize.ShloMosaic.Lib.ReduceAll

/-!
# The level the reference looks up

The reference counts, for every rotated entry, the boundaries below it, and looks the count up among the centroids. The
count is at most seven, so the lookup never leaves the table.
-/

@[expose] public section

set_option maxRecDepth 16384

noncomputable section

namespace Cert.Tq

open Idealize.ShloMosaic Idealize.ShloMosaic.ValueIdx
open Cert.ReferenceIdeal Cert.ReferenceIdeal.Gen Cert.ReferenceIdeal.Read
open scoped BigOperators

variable (x : FVec Ideal S65536x512 .f32) (P : FVec Ideal S512x512 .f32) (c : FVec Ideal S8 .f32) (b : FVec Ideal S7 .f32)

/-- The boundaries as a table of seven extended reals. -/
abbrev bounds : Fin 7 → EReal := fun k => b (ix1 k)

/-- The centroids as a table of eight extended reals. -/
abbrev cents : Fin 8 → EReal := fun k => c (ix1 k)

/-- Row `r` of `x`. -/
abbrev rowAt (r : Fin 65536) : Row := fun k => x (ix2 r k)

/-- The rotated array at an index: the row times the transpose of the rotation. -/
theorem rotated_apply (r : Fin 65536) (j : Fin 512) :
    val_main_v1 (F := Ideal) x P (ix2 r j) = rowTimesT (rowAt x r) (rowOf P) j := by
  rw [val_main_v1_apply]
  unfold rowTimesT
  refine Finset.sum_congr rfl fun k _ => ?_
  rw [val_main_v0_apply]
  refine congrArg₂ (· * ·) (congrArg x (funext fun a => ?_)) (congrArg P (funext fun a => ?_))
  · match a with
    | ⟨0, _⟩ => rfl
    | ⟨1, _⟩ => rfl
  · match a with
    | ⟨0, _⟩ => rfl
    | ⟨1, _⟩ => rfl

/-- The comparison bit for entry `(r, j)` and boundary `k` is one exactly if the boundary is below the rotated entry. -/
theorem bit_eq_one (i : S65536x512x7.Idx) (r : Fin 65536) (j : Fin 512) (k : Fin 7) (h0 : (i 0).val = r.val)
    (h1 : (i 1).val = j.val) (h2 : (i 2).val = k.val) :
    val_main_v6 (F := Ideal) x P b i = 1#1 ↔ bounds b k < rowTimesT (rowAt x r) (rowOf P) j := by
  rw [val_main_v6_apply, val_main_v4_apply, val_main_v3_apply, val_main_v5_apply, val_main_v2_apply]
  have e1 : idx_main_v3 (idx_main_v4 i) = ix1 k := funext fun a => Fin.ext (by
    match a with
    | ⟨0, _⟩ => exact h2)
  have e2 : idx_main_v2 (idx_main_v5 i) = ix2 r j := funext fun a => Fin.ext (by
    match a with
    | ⟨0, _⟩ => exact h0
    | ⟨1, _⟩ => exact h1)
  rw [e1, e2, rotated_apply]
  show Ideal.cmp .olt _ _ = 1#1 ↔ _
  unfold Ideal.cmp
  by_cases h : bounds b k < rowTimesT (rowAt x r) (rowOf P) j <;> simp [h]

/-- The count at an entry is the number of boundaries below the rotated entry. -/
theorem count_apply (r : Fin 65536) (j : Fin 512) :
    val_main_v8 (F := Ideal) x P b (ix2 r j) = BitVec.ofNat 32 (below (bounds b) (rowTimesT (rowAt x r) (rowOf P) j)) := by
  have hR : S65536x512x7.Reduces [2] S65536x512 := by decide
  unfold val_main_v8
  rw [Host.reduce_eq_fold_single IntOp.addi _ _ reducesTo_S65536x512x7_S65536x512_d2 hR]
  refine (IndicatorCount.fold_addi_setWidth_eq_card (fun k : Fin 7 => val_main_v6 (F := Ideal) x P b (hR.lift (ix2 r j) k)) Finset.univ).trans ?_
  unfold below
  congr 2
  exact Finset.filter_congr fun k _ => bit_eq_one x P b _ r j k rfl rfl rfl

/-- A number below eight, as a word, is not negative, so a lookup takes it as it is. -/
theorem wrap_small : ∀ n : Fin 8, Scalar.select (IntOp.cmpi .slt (BitVec.ofNat 32 n.val) 0#32)
    (IntOp.addi (BitVec.ofNat 32 n.val) 8#32) (BitVec.ofNat 32 n.val) = BitVec.ofNat 32 n.val := by
  decide

/-- A number below eight, as a word, is between zero and seven. -/
theorem range_small : ∀ n : Fin 8, IntOp.andi (IntOp.cmpi .sge (BitVec.ofNat 32 n.val) 0#32)
    (IntOp.cmpi .sle (BitVec.ofNat 32 n.val) 7#32) = 1#1 := by
  decide

/-- A number below eight survives being a word and being clamped to the table. -/
theorem clamp_small : ∀ n : Fin 8, min (BitVec.ofNat 32 n.val).toInt.toNat (8 - 1) = n.val := by
  decide

/-- The position looked up for an entry is its count. -/
theorem position_apply (i : S65536x512x1.Idx) (r : Fin 65536) (j : Fin 512) (h0 : (i 0).val = r.val) (h1 : (i 1).val = j.val) :
    val_main_call0_v5 (F := Ideal) x P b i = BitVec.ofNat 32 (below (bounds b) (rowTimesT (rowAt x r) (rowOf P) j)) := by
  have e : idx_main_call0_v5 i = ix2 r j := funext fun a => Fin.ext (by
    match a with
    | ⟨0, _⟩ => exact h0
    | ⟨1, _⟩ => exact h1)
  rw [val_main_call0_v5_apply, e, val_main_call0_v4_apply, val_main_call0_v1_apply, val_main_call0_v3_apply,
    val_main_call0_v0_apply, val_main_call0_v2_apply, val_main_call0_c_apply, val_main_call0_c_0_apply, count_apply]
  exact wrap_small ⟨_, below_lt _ _⟩

/-- Every position is inside the table. -/
theorem inside_apply (i : S65536x512.Idx) : val_main_call0_v12 (F := Ideal) x P b i = 1#1 := by
  unfold val_main_call0_v12
  refine Host.reduce_andi_one _ _ _ _ _ (val_main_call0_c_3_apply _) fun q => ?_
  rw [val_main_call0_v11_apply, val_main_call0_v7_apply, val_main_call0_v10_apply, val_main_call0_v6_apply,
    val_main_call0_c_2_apply, val_main_call0_v9_apply, val_main_call0_v8_apply, val_main_call0_c_1_apply,
    position_apply x P b q ⟨(q 0).val, (q 0).isLt⟩ ⟨(q 1).val, (q 1).isLt⟩ rfl rfl]
  exact range_small ⟨_, below_lt _ _⟩

/-- For ascending boundaries the value looked up for an entry is the rotated entry's level. -/
theorem lookup_apply (hb : Monotone (bounds b)) (r : Fin 65536) (j : Fin 512) :
    val_main_v9 (F := Ideal) x P c b (ix2 r j) = level (bounds b) (cents c) (rowTimesT (rowAt x r) (rowOf P) j) := by
  rw [val_main_v9_apply, inside_apply, select_one, level_eq _ _ _ hb]
  unfold val_main_call0_v13
  refine (gather_take_apply (by decide) gather_S8_S65536x512x1_S65536x512_n_0_n_n_0_2_1_wf c _ (ix2 r j)).trans ?_
  refine congrArg (fun n => c (ix1 n)) (Fin.ext ?_)
  show min (val_main_call0_v5 (F := Ideal) x P b (takeIdx (ix2 r j))).toInt.toNat (8 - 1) = _
  rw [position_apply x P b _ r j rfl rfl]
  exact clamp_small ⟨_, below_lt _ _⟩

end Cert.Tq
-- ==== Proof.Tq.Reference.lean ====
module

public import proofs.«01_k».proof.Proof.Tq.Lookup

/-!
# What the reference computes

The reference's result at an index is what the index's row of `x` becomes, at the index's column.
-/

@[expose] public section

set_option maxRecDepth 16384

noncomputable section

namespace Cert.Tq

open Idealize.ShloMosaic Idealize.ShloMosaic.ValueIdx
open Cert.ReferenceIdeal Cert.ReferenceIdeal.Gen Cert.ReferenceIdeal.Read
open scoped BigOperators

variable (x : FVec Ideal S65536x512 .f32) (P S : FVec Ideal S512x512 .f32) (c : FVec Ideal S8 .f32) (b : FVec Ideal S7 .f32)

/-- Every index of a product's left operand is the row's, at the summed coordinate. -/
theorem left_index (r : Fin 65536) (j k : Fin 512) : lidx_main_v10 (ix2 r j) k = ix2 r k :=
  funext fun a => Fin.ext (by
    match a with
    | ⟨0, _⟩ => rfl
    | ⟨1, _⟩ => rfl)

/-- Every index of a product's right operand is the summed coordinate, at the result's column. -/
theorem right_index (r : Fin 65536) (j k : Fin 512) : ridx_main_v10 (ix2 r j) k = ix2 k j :=
  funext fun a => Fin.ext (by
    match a with
    | ⟨0, _⟩ => rfl
    | ⟨1, _⟩ => rfl)

/-- Transposing exchanges the two coordinates. -/
theorem swapped_index (j k : Fin 512) : idx_main_v13 (ix2 k j) = ix2 j k :=
  funext fun a => Fin.ext (by
    match a with
    | ⟨0, _⟩ => rfl
    | ⟨1, _⟩ => rfl)

/-- The reference's coarse array holds the coarse rows. -/
theorem coarse_reference (hb : Monotone (bounds b)) (r : Fin 65536) (j : Fin 512) :
    val_main_v10 (F := Ideal) x P c b (ix2 r j) = coarseRow (bounds b) (cents c) (rowOf P) (rowAt x r) j := by
  rw [val_main_v10_apply]
  unfold coarseRow
  refine Finset.sum_congr rfl fun k _ => ?_
  rw [left_index, right_index, lookup_apply x P c b hb]

/-- The reference's residual array holds the residuals. -/
theorem residual_reference (hb : Monotone (bounds b)) (r : Fin 65536) (j : Fin 512) :
    val_main_v11 (F := Ideal) x P c b (ix2 r j) = residual (bounds b) (cents c) (rowOf P) (rowAt x r) j := by
  rw [val_main_v11_apply, coarse_reference x P c b hb]
  rfl

/-- The reference's sum of squares is the residual's. -/
theorem squares_reference (hb : Monotone (bounds b)) (i : S65536.Idx) (r : Fin 65536) (hr : (i 0).val = r.val) :
    val_main_call1_v1 (F := Ideal) x P c b i = ∑ k : Fin 512, residual (bounds b) (cents c) (rowOf P) (rowAt x r) k
      * residual (bounds b) (cents c) (rowOf P) (rowAt x r) k := by
  rw [val_main_call1_v1_apply, val_main_call1_cst_apply]
  refine (congrArg (· + _) (Ideal.ofBits_zero_f32)).trans ((zero_add _).trans ?_)
  refine Finset.sum_congr rfl fun k _ => ?_
  have e : idx_main_call1_v1 i k = ix2 r k := funext fun a => Fin.ext (by
    match a with
    | ⟨0, _⟩ => exact hr
    | ⟨1, _⟩ => rfl)
  rw [e, val_main_call1_v0_apply, residual_reference x P c b hb]
  rfl

/-- The reference's factor for a row is the residual's length times the scale. -/
theorem factor_reference (hb : Monotone (bounds b)) (r : Fin 65536) (j : Fin 512) :
    val_main_v25 (F := Ideal) x P c b (ix2 r j) = Ideal.sqrt (∑ k : Fin 512, residual (bounds b) (cents c) (rowOf P) (rowAt x r) k
      * residual (bounds b) (cents c) (rowOf P) (rowAt x r) k) * scale := by
  rw [val_main_v25_apply, val_main_v23_apply, val_main_v12_apply, val_main_call1_v2_apply,
    squares_reference x P c b hb _ r rfl, val_main_v22_apply, val_main_v21_apply, val_main_v20_apply, val_main_v19_apply,
    val_main_cst_2_apply, val_main_cst_3_apply]
  rfl

/-- The reference's array of signs holds the signs of the sketched residuals. -/
theorem signs_reference (hb : Monotone (bounds b)) (r : Fin 65536) (j : Fin 512) :
    val_main_v18 (F := Ideal) x P S c b (ix2 r j)
      = signOf (rowTimesT (residual (bounds b) (cents c) (rowOf P) (rowAt x r)) (rowOf S) j) := by
  have e : val_main_v14 (F := Ideal) x P S c b (ix2 r j)
      = rowTimesT (residual (bounds b) (cents c) (rowOf P) (rowAt x r)) (rowOf S) j := by
    rw [val_main_v14_apply]
    unfold rowTimesT
    refine Finset.sum_congr rfl fun k _ => ?_
    rw [show lidx_main_v14 (ix2 r j) k = ix2 r k from left_index r j k,
      show ridx_main_v14 (ix2 r j) k = ix2 k j from right_index r j k, residual_reference x P c b hb, val_main_v13_apply,
      swapped_index]
  rw [val_main_v18_apply, val_main_v17_apply, val_main_v16_apply, e, val_main_v15_apply, val_main_cst_apply,
    val_main_call2_v0_apply, val_main_cst_0_apply, val_main_call2_v1_apply, val_main_cst_1_apply]
  rfl

/-- For ascending boundaries the reference's result at `(r, j)` is what row `r` of `x` becomes, at `j`. -/
theorem reference_apply (hb : Monotone (bounds b)) (r : Fin 65536) (j : Fin 512) :
    val_main_v27 (F := Ideal) x P S c b (ix2 r j)
      = resultRow (bounds b) (cents c) (rowOf P) (rowOf S) (rowAt x r) j := by
  have e : val_main_v24 (F := Ideal) x P S c b (ix2 r j)
      = rowTimes (fun k => signOf (rowTimesT (residual (bounds b) (cents c) (rowOf P) (rowAt x r)) (rowOf S) k)) (rowOf S) j := by
    rw [val_main_v24_apply]
    unfold rowTimes
    refine Finset.sum_congr rfl fun k _ => ?_
    rw [show lidx_main_v24 (ix2 r j) k = ix2 r k from left_index r j k,
      show ridx_main_v24 (ix2 r j) k = ix2 k j from right_index r j k, signs_reference x P S c b hb]
  rw [val_main_v27_apply, val_main_v26_apply, coarse_reference x P c b hb, factor_reference x P c b hb, e]
  rfl

end Cert.Tq
-- ==== Proof.Tq.Ascend.lean ====
module

public import proofs.«01_k».proof.Defs
public import proofs.«01_k».proof.Proof.Gen.Pre_boundaries_ascend
public import Idealize.ShloMosaic.Lib.ReduceAll
public import Idealize.ShloMosaic.Lib.ValueIdxCore

/-!
# What the precondition says

Each of the first six boundaries is at most the next; so the table of boundaries is monotone.
-/

@[expose] public section

noncomputable section

namespace Cert.Tq

open Idealize.ShloMosaic Idealize.ShloMosaic.ValueIdx
open Cert.Pre_boundaries_ascend Cert.Pre_boundaries_ascend.Gen

/-- The comparison "at most" of two extended reals gives one only if it holds. -/
theorem le_of_cmp (u v : EReal) (h : Ideal.cmp .ole u v = 1#1) : u ≤ v := by
  unfold Ideal.cmp at h
  by_contra hn
  simp [hn] at h

/-- If the precondition's predicate is one, the boundaries ascend. -/
theorem bounds_mono (x : FVec Ideal S65536x512 .f32) (P S : FVec Ideal S512x512 .f32) (c : FVec Ideal S8 .f32)
    (b : FVec Ideal S7 .f32) (h : fn (F := Ideal) x P S c b = fun _ => 1#1) : Monotone fun k : Fin 7 => b (ix1 k) := by
  refine Fin.monotone_iff_le_succ.2 fun k => ?_
  have : Subsingleton S_.Idx := ⟨fun p q => funext fun a => a.elim0⟩
  have e := Host.reduce_andi_all _ _ reducesTo_S6_S_d0 h_S_ (ix0) (congrFun h ix0) (ix1 k)
  have e' := le_of_cmp _ _ e
  have l : extractStridedSlice S6 ![0] b slices_S7_S6_0 (ix1 k) = b (ix1 k.castSucc) :=
    congrArg b (funext fun a => Fin.ext (by
      match a with
      | ⟨0, _⟩ => exact Nat.zero_add _))
  have u : extractStridedSlice S6 ![1] b slices_S7_S6_1 (ix1 k) = b (ix1 k.succ) :=
    congrArg b (funext fun a => Fin.ext (by
      match a with
      | ⟨0, _⟩ => exact Nat.add_comm _ _))
  exact l ▸ u ▸ e'

end Cert.Tq
-- ==== Proof.lean ====
/-
  The proof of the claim: the frames are the generated ones; the value claim pairs what the kernel's result array holds
  (`Cert.Tq.array_eq`) with what the reference computes (`Cert.Tq.reference_apply`), for boundaries that ascend
  (`Cert.Tq.bounds_mono`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_boundaries_ascend
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Tq.Array
public import proofs.«01_k».proof.Proof.Tq.Reference
public import proofs.«01_k».proof.Proof.Tq.Ascend
public import Idealize.ShloMosaic.Lib.Quiescent

@[expose] public section

noncomputable section

namespace Cert.Proof

open Idealize.ShloMosaic Idealize.SL.Sem Cert.Kernel

/-- The reference's result is the array in which every row is what that row of `x` becomes. -/
theorem reference_eq (m : (ℓ : Loc Cert.ReferenceIdeal.nD Cert.ReferenceIdeal.τ Cert.ReferenceIdeal.sig) → Buf (Elt Ideal) ℓ)
    (d : Dev Cert.ReferenceIdeal.nD)
    (hb : Monotone (Cert.Tq.bounds (m ((d.tc : Thread Cert.ReferenceIdeal.nD Cert.ReferenceIdeal.τ).loc Cert.ReferenceIdeal.main_arg4)))) :
    Cert.ReferenceIdeal.Value.res_main_v27 m d = Cert.Tq.resultArray
      (m ((d.tc : Thread Cert.ReferenceIdeal.nD Cert.ReferenceIdeal.τ).loc Cert.ReferenceIdeal.main_arg0))
      (m ((d.tc : Thread Cert.ReferenceIdeal.nD Cert.ReferenceIdeal.τ).loc Cert.ReferenceIdeal.main_arg1))
      (m ((d.tc : Thread Cert.ReferenceIdeal.nD Cert.ReferenceIdeal.τ).loc Cert.ReferenceIdeal.main_arg2))
      (m ((d.tc : Thread Cert.ReferenceIdeal.nD Cert.ReferenceIdeal.τ).loc Cert.ReferenceIdeal.main_arg3))
      (m ((d.tc : Thread Cert.ReferenceIdeal.nD Cert.ReferenceIdeal.τ).loc Cert.ReferenceIdeal.main_arg4)) := by
  rw [Cert.ReferenceIdeal.Read.val_main_v27_eq]
  funext i
  rw [ValueIdx.eq_ix2 i]
  exact Cert.Tq.reference_apply _ _ _ _ _ hb (i 0) (i 1)

/-- The reference runs, leaves its arguments unchanged and, having no semaphore, leaves every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ d : Dev Cert.ReferenceIdeal.nD,
        r.2.mem ((d.tc : Thread Cert.ReferenceIdeal.nD Cert.ReferenceIdeal.τ).loc Cert.ReferenceIdeal.main_arg0) = m ((d.tc : Thread Cert.ReferenceIdeal.nD Cert.ReferenceIdeal.τ).loc Cert.ReferenceIdeal.main_arg0)
        ∧ r.2.mem ((d.tc : Thread Cert.ReferenceIdeal.nD Cert.ReferenceIdeal.τ).loc Cert.ReferenceIdeal.main_arg1) = m ((d.tc : Thread Cert.ReferenceIdeal.nD Cert.ReferenceIdeal.τ).loc Cert.ReferenceIdeal.main_arg1)
        ∧ r.2.mem ((d.tc : Thread Cert.ReferenceIdeal.nD Cert.ReferenceIdeal.τ).loc Cert.ReferenceIdeal.main_arg2) = m ((d.tc : Thread Cert.ReferenceIdeal.nD Cert.ReferenceIdeal.τ).loc Cert.ReferenceIdeal.main_arg2)
        ∧ r.2.mem ((d.tc : Thread Cert.ReferenceIdeal.nD Cert.ReferenceIdeal.τ).loc Cert.ReferenceIdeal.main_arg3) = m ((d.tc : Thread Cert.ReferenceIdeal.nD Cert.ReferenceIdeal.τ).loc Cert.ReferenceIdeal.main_arg3)
        ∧ r.2.mem ((d.tc : Thread Cert.ReferenceIdeal.nD Cert.ReferenceIdeal.τ).loc Cert.ReferenceIdeal.main_arg4) = m ((d.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun d => (h d).2, sem_eq_zero_of_no_sems rfl r.2⟩)
    (Cert.ReferenceIdeal.Value.run m g)

/-- The kernel and the reference, started on the same arguments with ascending boundaries, end with the same array. -/
theorem value : Cert.algebraic_KernelIdeal_ReferenceIdeal_pre_boundaries_ascend := by
  intro m g m' g' hpre hagree
  refine ⟨fun d => Cert.Tq.resultArray
      (m ((d.tc : Thread Cert.KernelIdeal.nD Cert.KernelIdeal.τ).loc Cert.KernelIdeal.main_arg0))
      (m ((d.tc : Thread Cert.KernelIdeal.nD Cert.KernelIdeal.τ).loc Cert.KernelIdeal.main_arg1))
      (m ((d.tc : Thread Cert.KernelIdeal.nD Cert.KernelIdeal.τ).loc Cert.KernelIdeal.main_arg2))
      (m ((d.tc : Thread Cert.KernelIdeal.nD Cert.KernelIdeal.τ).loc Cert.KernelIdeal.main_arg3))
      (m ((d.tc : Thread Cert.KernelIdeal.nD Cert.KernelIdeal.τ).loc Cert.KernelIdeal.main_arg4)), ?_, ?_⟩
  · exact (θ_run Cert.KernelIdeal.defs _ _).mono (fun r h d => ⟨(h d).1.trans (Cert.Tq.array_eq m d), (h d).2⟩)
      (Cert.KernelIdeal.Value.run_blocks m g)
  · refine (θ_run Cert.ReferenceIdeal.defs _ _).mono (fun r h d => ⟨(h d).1.trans ?_, (h d).2⟩)
      (Cert.ReferenceIdeal.Value.run m' g')
    have e := hagree d
    rw [reference_eq m' d (by rw [e.2.2.2.2]; exact Cert.Tq.bounds_mono _ _ _ _ _ (hpre d)),
      e.1, e.2.1, e.2.2.1, e.2.2.2.1, e.2.2.2.2]

/-- Every claim holds. -/
theorem claim : Cert.Claim :=
  ⟨Cert.Kernel.Gen.facts, Cert.KernelIdeal.Gen.facts, Cert.ReferenceIdeal.Gen.facts, Cert.Pre_boundaries_ascend.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, value⟩

end Cert.Proof

end
